-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x26 : Shape := ⟨2, ![16384, 26]⟩
abbrev S32 : Shape := ⟨1, ![32]⟩
abbrev S_ : Shape := ⟨0, ![]⟩
abbrev S64 : Shape := ⟨1, ![64]⟩
abbrev S26x26 : Shape := ⟨2, ![26, 26]⟩
abbrev S26x26x1 : Shape := ⟨3, ![26, 26, 1]⟩
abbrev S1x1x64 : Shape := ⟨3, ![1, 1, 64]⟩
abbrev S26x26x64 : Shape := ⟨3, ![26, 26, 64]⟩
abbrev S26x1664 : Shape := ⟨2, ![26, 1664]⟩
abbrev S1x64 : Shape := ⟨2, ![1, 64]⟩
abbrev S26x64 : Shape := ⟨2, ![26, 64]⟩
abbrev S1664 : Shape := ⟨1, ![1664]⟩
abbrev S1x1664 : Shape := ⟨2, ![1, 1664]⟩
abbrev S16384x1664 : Shape := ⟨2, ![16384, 1664]⟩
abbrev S1024x26 : Shape := ⟨2, ![1024, 26]⟩
abbrev S1024x1664 : Shape := ⟨2, ![1024, 1664]⟩

abbrev nBuf : Space → Nat
  | .hbm => 35
  | .vmem => 6
  | .smem => 0
  | _ => 0

abbrev bufTy : (tb : Table) → Fin (tcTables nBuf tb) → BufTy
  | .hbm, ⟨0, _⟩ => ⟨S16384x26, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64, .f32⟩
  | .hbm, ⟨10, _⟩ => ⟨S26x26, .i32⟩
  | .hbm, ⟨11, _⟩ => ⟨S26x26, .i32⟩
  | .hbm, ⟨12, _⟩ => ⟨S_, .i32⟩
  | .hbm, ⟨13, _⟩ => ⟨S26x26, .i32⟩
  | .hbm, ⟨14, _⟩ => ⟨S26x26, .i32⟩
  | .hbm, ⟨15, _⟩ => ⟨S26x26, .i1⟩
  | .hbm, ⟨16, _⟩ => ⟨S26x26, .f32⟩
  | .hbm, ⟨17, _⟩ => ⟨S26x26x1, .f32⟩
  | .hbm, ⟨18, _⟩ => ⟨S1x1x64, .f32⟩
  | .hbm, ⟨19, _⟩ => ⟨S26x26x64, .f32⟩
  | .hbm, ⟨20, _⟩ => ⟨S26x26x64, .f32⟩
  | .hbm, ⟨21, _⟩ => ⟨S26x26x64, .f32⟩
  | .hbm, ⟨22, _⟩ => ⟨S26x1664, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S26x64, .f32⟩
  | .hbm, ⟨32, _⟩ => ⟨S1664, .f32⟩
  | .hbm, ⟨33, _⟩ => ⟨S1x1664, .f32⟩
  | .hbm, ⟨34, _⟩ => ⟨S16384x1664, .f32⟩
  | .local _ .vmem, ⟨0, _⟩ => ⟨S1024x26, .f32⟩
  | .local _ .vmem, ⟨1, _⟩ => ⟨S1024x26, .f32⟩
  | .local _ .vmem, ⟨2, _⟩ => ⟨S26x1664, .f32⟩
  | .local _ .vmem, ⟨3, _⟩ => ⟨S1x1664, .f32⟩
  | .local _ .vmem, ⟨4, _⟩ => ⟨S1024x1664, .f32⟩
  | .local _ .vmem, ⟨5, _⟩ => ⟨S1024x1664, .f32⟩
  | _, _ => ⟨S16384x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x26 : Shape := ⟨2, ![16384, 26]⟩
abbrev S32 : Shape := ⟨1, ![32]⟩
abbrev S_ : Shape := ⟨0, ![]⟩
abbrev S16384x26x1 : Shape := ⟨3, ![16384, 26, 1]⟩
abbrev S1x1x32 : Shape := ⟨3, ![1, 1, 32]⟩
abbrev S16384x26x32 : Shape := ⟨3, ![16384, 26, 32]⟩
abbrev S16384x26x64 : Shape := ⟨3, ![16384, 26, 64]⟩
abbrev S16384x1664 : Shape := ⟨2, ![16384, 1664]⟩

abbrev nBuf : Space → Nat
  | .hbm => 18
  | .vmem => 0
  | .smem => 0
  | _ => 0

abbrev bufTy : (tb : Table) → Fin (tcTables nBuf tb) → BufTy
  | .hbm, ⟨0, _⟩ => ⟨S16384x26, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S16384x26x1, .f32⟩
  | .hbm, ⟨10, _⟩ => ⟨S1x1x32, .f32⟩
  | .hbm, ⟨11, _⟩ => ⟨S16384x26x32, .f32⟩
  | .hbm, ⟨12, _⟩ => ⟨S16384x26x32, .f32⟩
  | .hbm, ⟨13, _⟩ => ⟨S16384x26x32, .f32⟩
  | .hbm, ⟨14, _⟩ => ⟨S16384x26x32, .f32⟩
  | .hbm, ⟨15, _⟩ => ⟨S16384x26x32, .f32⟩
  | .hbm, ⟨16, _⟩ => ⟨S16384x26x64, .f32⟩
  | .hbm, ⟨17, _⟩ => ⟨S16384x1664, .f32⟩
  | _, _ => ⟨S16384x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Math.lean ====
/- The mathematics of the encoding, with no program in sight: what one entry of the result is, the angle shift that
   turns a sine into a cosine, and the sum against a row that is zero but at one place. -/
module

public import Idealize.ShloMosaic.Lib.ValueIdx
public import Idealize.ShloMosaic.Lib.IdealHost
public import Idealize.ShloMosaic.PureOps.Ideal

@[expose] public section

noncomputable section

namespace Cert.Encoding

open Idealize.ShloMosaic
open scoped BigOperators

/-- Frequency number `d`: `exp (c · d / 32)`, where `c` is the number both programs write for `-log 10000`. -/
def freq (d : ℕ) : EReal :=
  Ideal.exp (Ideal.div (Ideal.ofBits .f32 0xC1135D8E#32 * (((BitVec.ofNat 32 d).toInt : ℝ) : EReal)) (Ideal.ofBits .f32 0x42000000#32))

/-- Entry `d` (of 64) of the encoding of one feature value `x`: 32 cosines of `x` times a frequency, then 32 sines. -/
def entry (x : EReal) (d : ℕ) : EReal :=
  if d < 32 then Ideal.cos (x * freq d) else Ideal.sin (x * freq (d - 32))

/-- The phase added to entry `d`'s angle by the kernel: a quarter turn under the cosines, nothing under the sines. -/
def quarter (d : ℕ) : EReal := if d < 32 then ((Real.pi / 2 : ℝ) : EReal) else 0

/-- The frequency that entry `d` of 64 uses: the 32 frequencies, written twice. -/
def freq2 (d : ℕ) : EReal := if d < 32 then freq d else freq (d - 32)

/-- The two-argument arctangent at `(1, 0)` is a quarter turn, exactly. -/
theorem atan2_one_zero : Ideal.atan2 1 0 = ((Real.pi / 2 : ℝ) : EReal) := by
  have h : Ideal.atan2 ((1 : ℝ) : EReal) ((0 : ℝ) : EReal) = ((Real.pi / 2 : ℝ) : EReal) := by
    show (((if (0 : ℝ) < 0 then Real.arctan (1 / 0)
      else if (0 : ℝ) < 0 then (if (0 : ℝ) ≤ 1 then Real.arctan (1 / 0) + Real.pi else Real.arctan (1 / 0) - Real.pi)
      else if (0 : ℝ) < 1 then Real.pi / 2 else if (1 : ℝ) < 0 then -(Real.pi / 2) else 0 : ℝ)) : EReal) = _
    rw [if_neg (lt_irrefl _), if_neg (lt_irrefl _), if_pos one_pos]
  rwa [EReal.coe_one, EReal.coe_zero] at h

/-- The sine of an angle and a quarter turn is the cosine of the angle; at an infinite angle both are undefined alike. -/
theorem sin_add_quarter (a : EReal) : Ideal.sin (a + ((Real.pi / 2 : ℝ) : EReal)) = Ideal.cos a := by
  induction a with
  | bot => rw [EReal.bot_add]; rfl
  | top => rw [EReal.top_add_coe]; rfl
  | coe r =>
    rw [← EReal.coe_add]
    show ((Real.sin (r + Real.pi / 2) : ℝ) : EReal) = ((Real.cos r : ℝ) : EReal)
    rw [Real.sin_add_pi_div_two]

/-- One entry of the encoding is the sine of the scaled value shifted by that entry's phase. -/
theorem sin_shift (x : EReal) (d : ℕ) : Ideal.sin (x * freq2 d + quarter d) = entry x d := by
  unfold freq2 quarter entry
  by_cases h : d < 32
  · simp only [if_pos h]; exact sin_add_quarter _
  · simp only [if_neg h, add_zero]

/-- A sum of products against a row that is `t` at place `f` and zero elsewhere is the one product at `f`,
    whatever the other factors are. -/
theorem sum_single {n : ℕ} (x : Fin n → EReal) (f : Fin n) (t : EReal) :
    ∑ k : Fin n, x k * ((if k = f then 1 else 0) * t) = x f * t := by
  rw [Finset.sum_eq_single f]
  · rw [if_pos rfl, one_mul]
  · intro k _ hk
    rw [if_neg hk, zero_mul, mul_zero]
  · intro h; exact absurd (Finset.mem_univ f) h

end Cert.Encoding

end
-- ==== Proof.Tables.lean ====
/- What the kernel's two tables hold when the launch starts: the 26 × 1664 matrix that spreads a row of features over
   its frequencies, and the row of 1664 phases. Column `q` is entry `q % 64` of feature `q / 64`. -/
module

public import proofs.«01_k».proof.Proof.Math
public import proofs.«01_k».proof.Proof.Gen.KernelIdeal.Frame
public import Idealize.ShloMosaic.Lib.Claim
public import Idealize.ShloMosaic.Lib.Pipeline.Value

@[expose] public section

noncomputable section

namespace Cert.KernelIdeal.Tables

open Cert.KernelIdeal Cert.KernelIdeal.Gen Cert.Encoding
open Idealize.ShloMosaic Idealize.ShloMosaic.TcCoe Idealize.SL.Sem Idealize.ShloMosaic.ValueIdx

/-- The 32 frequencies, as the host computes them. -/
abbrev freqs : FVec Ideal S32 .f32 :=
  Host.exp (Host.divf (mulf (broadcastInDim S32 ![] bcast_S_S32 (constant S_ .f32 0xC1135D8E#32)) (sitofp .f32 (iotaInDim S32 32 0)))
    (broadcastInDim S32 ![] bcast_S_S32 (constant S_ .f32 0x42000000#32)))

/-- The 32 frequencies twice. -/
abbrev freqs2 : FVec Ideal S64 .f32 := concatenate S64 0 [⟨S32, freqs⟩, ⟨S32, freqs⟩] concatenates_S32_S32_S64_d0

/-- The unit matrix of size 26. -/
abbrev unit26 : FVec Ideal S26x26 .f32 :=
  uitofp .f32 (cmpi .eq (addi (iotaInDim S26x26 32 0) (broadcastInDim S26x26 ![] bcast_S_S26x26 (constantI S_ 32 0#32))) (iotaInDim S26x26 32 1))

/-- The spreading matrix as the host builds it: the unit matrix times the doubled frequencies, columns run together. -/
abbrev spread : FVec Ideal S26x1664 .f32 :=
  shapeCast S26x1664 (mulf
      (broadcastInDim S26x26x64 ![0, 1, 2] bcast_S26x26x1_S26x26x64_0_1_2 (broadcastInDim S26x26x1 ![0, 1] bcast_S26x26_S26x26x1_0_1 unit26))
      (broadcastInDim S26x26x64 ![0, 1, 2] bcast_S1x1x64_S26x26x64_0_1_2 (broadcastInDim S1x1x64 ![2] bcast_S64_S1x1x64_2 freqs2)))
    shapeCasts_S26x26x64_S26x1664

/-- One feature's 64 phases: 32 quarter turns, 32 zeros. -/
abbrev phase64 : FVec Ideal S64 .f32 :=
  concatenate S64 0 [⟨S32, broadcastInDim S32 ![] bcast_S_S32 (Host.atan2 (constant S_ .f32 0x3F800000#32) (constant S_ .f32 0x00000000#32))⟩,
    ⟨S32, broadcastInDim S32 ![] bcast_S_S32 (constant S_ .f32 0x00000000#32)⟩] concatenates_S32_S32_S64_d0

/-- The row of phases as the host builds it: one feature's 64 phases, repeated for each feature. -/
abbrev phases : FVec Ideal S1x1664 .f32 :=
  broadcastInDim S1x1664 ![1] bcast_S1664_S1x1664_1
    (shapeCast S1664 (broadcastInDim S26x64 ![0, 1] bcast_S1x64_S26x64_0_1 (shapeCast S1x64 phase64 shapeCasts_S64_S1x64)) shapeCasts_S26x64_S1664)

/-- Frequency `d` of the host's list. -/
theorem freqs_apply (d : Fin 32) : freqs (ix1 d) = freq d.val := rfl

/-- Entry `d` of the doubled list. -/
theorem freqs2_apply (d : Fin 64) : freqs2 (ix1 d) = freq2 d.val := by
  unfold freq2
  by_cases h : d.val < 32
  · rw [if_pos h]
    refine (concatenate_pair_apply_left 0 freqs freqs _ (ix1 d) rfl (ix1 (⟨d.val, h⟩ : Fin 32)) ?_).trans (freqs_apply _)
    intro b; match b with | ⟨0, _⟩ => rfl
  · rw [if_neg h]
    have hd := d.isLt
    refine (concatenate_pair_apply_right 0 freqs freqs _ (ix1 d) rfl rfl (ix1 (⟨d.val - 32, by omega⟩ : Fin 32)) ?_ ?_).trans (freqs_apply _)
    · intro b hb; match b with | ⟨0, _⟩ => exact absurd rfl hb
    · show d.val - 32 + 32 = d.val; omega

/-- The unit matrix at `(k, f)`: one on the diagonal, zero off it. -/
theorem unit26_apply (k f : Fin 26) : unit26 (ix2 k f) = if k = f then 1 else 0 := by
  show ((((BitVec.ofBool (decide (BitVec.ofNat 32 k.val + 0#32 = BitVec.ofNat 32 f.val)) : BitVec 1).toNat : ℝ)) : EReal) = _
  have e : (BitVec.ofNat 32 k.val + 0#32 = BitVec.ofNat 32 f.val) ↔ k = f := by
    have := k.isLt; have := f.isLt
    rw [BitVec.add_zero, ← BitVec.toNat_inj, BitVec.toNat_ofNat, BitVec.toNat_ofNat, Nat.mod_eq_of_lt (by omega), Nat.mod_eq_of_lt (by omega)]
    exact Fin.ext_iff.symm
  by_cases h : k = f
  · rw [if_pos h, decide_eq_true (e.2 h)]; simp
  · rw [if_neg h, decide_eq_false (fun h' => h (e.1 h'))]; simp

/-- The spreading matrix at row `k`, column `q`: the frequency of entry `q % 64` where `k` is the column's feature, else zero. -/
theorem spread_apply (k : Fin 26) (q : Fin 1664) (f : Fin 26) (d : Fin 64) (hq : q.val = 64 * f.val + d.val) :
    spread (ix2 k q) = (if k = f then 1 else 0) * freq2 d.val := by
  refine (shapeCast_apply _ _ (ix2 k q) (ix3 k f d) ?_).trans ?_
  · rw [Shape.rowMajor_val_three, Shape.rowMajor_val_two]
    show (k.val * 26 + f.val) * 64 + d.val = k.val * 1664 + q.val
    omega
  · refine congrArg₂ (· * ·) ?_ ?_
    · refine (broadcastInDim_apply _ _ _ (ix3 k f d) (ix3 k f (0 : Fin 1)) ?_).trans ?_
      · intro a; match a with | ⟨0, _⟩ => rfl | ⟨1, _⟩ => rfl | ⟨2, _⟩ => rfl
      · refine (broadcastInDim_apply _ _ _ (ix3 k f (0 : Fin 1)) (ix2 k f) ?_).trans (unit26_apply k f)
        intro a; match a with | ⟨0, _⟩ => rfl | ⟨1, _⟩ => rfl
    · refine (broadcastInDim_apply _ _ _ (ix3 k f d) (ix3 (0 : Fin 1) (0 : Fin 1) d) ?_).trans ?_
      · intro a; match a with | ⟨0, _⟩ => rfl | ⟨1, _⟩ => rfl | ⟨2, _⟩ => rfl
      · refine (broadcastInDim_apply _ _ _ (ix3 (0 : Fin 1) (0 : Fin 1) d) (ix1 d) ?_).trans (freqs2_apply d)
        intro a; match a with | ⟨0, _⟩ => rfl

/-- Entry `d` of one feature's phases. -/
theorem phase64_apply (d : Fin 64) : phase64 (ix1 d) = quarter d.val := by
  unfold quarter
  by_cases h : d.val < 32
  · rw [if_pos h]
    refine (concatenate_pair_apply_left (s₁ := S32) (s₂ := S32) 0 _ _ _ (ix1 d) rfl (ix1 (⟨d.val, h⟩ : Fin 32)) ?_).trans ?_
    · intro b; match b with | ⟨0, _⟩ => rfl
    · rw [broadcastInDim_scalar_apply]
      show Ideal.atan2 (Ideal.ofBits .f32 0x3F800000#32) (Ideal.ofBits .f32 0x00000000#32) = _
      rw [Ideal.ofBits_one_f32, Ideal.ofBits_zero_f32]
      exact atan2_one_zero
  · rw [if_neg h]
    have hd := d.isLt
    refine (concatenate_pair_apply_right (s₁ := S32) (s₂ := S32) 0 _ _ _ (ix1 d) rfl rfl (ix1 (⟨d.val - 32, by omega⟩ : Fin 32)) ?_ ?_).trans ?_
    · intro b hb; match b with | ⟨0, _⟩ => exact absurd rfl hb
    · show d.val - 32 + 32 = d.val; omega
    · rw [broadcastInDim_scalar_apply]
      exact Ideal.ofBits_zero_f32

/-- The row of phases at column `q`: the phase of entry `q % 64`. -/
theorem phases_apply (q : Fin 1664) (f : Fin 26) (d : Fin 64) (hq : q.val = 64 * f.val + d.val) :
    phases (ix2 (0 : Fin 1) q) = quarter d.val := by
  refine (broadcastInDim_apply _ _ _ (ix2 (0 : Fin 1) q) (ix1 q) ?_).trans ?_
  · intro a; match a with | ⟨0, _⟩ => rfl
  refine (shapeCast_apply _ _ (ix1 q) (ix2 f d) ?_).trans ?_
  · rw [Shape.rowMajor_val_two, Shape.rowMajor_val_one]
    show f.val * 64 + d.val = q.val
    omega
  refine (broadcastInDim_apply _ _ _ (ix2 f d) (ix2 (0 : Fin 1) d) ?_).trans ?_
  · intro a; match a with | ⟨0, _⟩ => rfl | ⟨1, _⟩ => rfl
  refine (shapeCast_apply _ _ (ix2 (0 : Fin 1) d) (ix1 d) ?_).trans (phase64_apply d)
  rw [Shape.rowMajor_val_two, Shape.rowMajor_val_one]
  show d.val = 0 * 64 + d.val
  omega

variable (m : (ℓ : Loc nD τ sig) → Buf (Elt Ideal) ℓ)

/-- When the launch starts, the second operand holds the spreading matrix. -/
theorem entry_spread (c : Dev nD) : V m c main_v18 = spread := by entry_read; rfl

/-- When the launch starts, the third operand holds the row of phases. -/
theorem entry_phases (c : Dev nD) : V m c main_v26 = phases := by entry_read; rfl

end Cert.KernelIdeal.Tables

end
-- ==== Proof.Array.lean ====
/- What the kernel's result array holds when the run ends: every entry is the encoding of the feature its column names. -/
module

public import proofs.«01_k».proof.Proof.Tables
public import proofs.«01_k».proof.Proof.Gen.KernelIdeal.Value
public import Idealize.ShloMosaic.Lib.MatmulPlain
public import Idealize.ShloMosaic.Lib.ValueLayout

@[expose] public section

noncomputable section

namespace Cert.KernelIdeal.Array

open Cert.KernelIdeal Cert.KernelIdeal.Gen Cert.KernelIdeal.Tables Cert.Encoding
open Idealize.ShloMosaic Idealize.ShloMosaic.TcCoe Idealize.SL.Sem Idealize.ShloMosaic.ValueIdx
open Idealize.ShloMosaic.Pipeline (Dat)
open scoped BigOperators

/-- The feature that column `q` of the result encodes. -/
def feat (q : Fin 1664) : Fin 26 := ⟨q.val / 64, by have := q.isLt; omega⟩

/-- The place of column `q` within its feature's 64 entries. -/
def place (q : Fin 1664) : Fin 64 := ⟨q.val % 64, Nat.mod_lt _ (by decide)⟩

/-- A column is its feature's block of 64 and its place in it. -/
theorem col_eq (q : Fin 1664) : q.val = 64 * (feat q).val + (place q).val := (Nat.div_add_mod q.val 64).symm

/-- The whole encoding of an array of features: row by row, feature by feature, 64 entries each. -/
def encode (x : FVec Ideal S16384x26 .f32) : FVec Ideal S16384x1664 .f32 :=
  fun j => entry (x (ix2 (j 0) (feat (j 1)))) (place (j 1)).val

/-- What the body computes from a block of rows and the two tables, at row `r` and column `q`: the encoding of the row's
    feature. The product against the spreading matrix keeps the one feature, and the phase makes its sine a cosine where due. -/
theorem body_apply (x : FVec Ideal S1024x26 .f32) (r : Fin 1024) (q : Fin 1664) :
    k0_pay1 (F := Ideal) x spread phases (ix2 r q) = entry (x (ix2 r (feat q))) (place q).val := by
  have hdot : dot_S1024x26_S26x1664_S1024x1664_1_0_0_1_n_n = DotDims.plain 1024 26 1664 := rfl
  have hprod : (matmul dot_S1024x26_S26x1664_S1024x1664_1_0_0_1_n_n none x spread (constant S1024x1664 .f32 0x00000000#32) : FVec Ideal S1024x1664 .f32) (ix2 r q)
      = x (ix2 r (feat q)) * freq2 (place q).val := by
    rw [hdot]
    refine (Ideal.matmul_plain_apply none x spread _ r q).trans ?_
    rw [constant_apply, Ideal.ofBits_zero_f32, zero_add]
    rw [← sum_single (fun k => x (ix2 r k)) (feat q) (freq2 (place q).val)]
    exact Finset.sum_congr rfl fun k _ => congrArg (x (ix2 r k) * ·) (spread_apply k q (feat q) (place q) (col_eq q))
  have hphase : (broadcastTo S1024x1664 phases broadcasts_S1x1664_S1024x1664) (ix2 r q) = quarter (place q).val := by
    refine (broadcastTo_apply _ _ (ix2 r q) (ix2 (0 : Fin 1) q) ?_).trans (phases_apply q (feat q) (place q) (col_eq q))
    intro a; match a with | ⟨0, _⟩ => rfl | ⟨1, _⟩ => rfl
  rw [← sin_shift, ← hprod, ← hphase]
  unfold k0_pay1
  simp only [shapeCast_self]
  rfl

variable (m : (ℓ : Loc nD τ sig) → Buf (Elt Ideal) ℓ)

/-- The features the kernel is launched on. -/
abbrev input (c : Dev nD) : FVec Ideal S16384x26 .f32 := m ((c : Thread nD τ).loc main_arg0)

/-- Zero offsets, written as a list or as a function. -/
theorem zero_offsets : (![0, 0] : Fin 2 → Nat) = fun _ => 0 := funext fun a => by match a with | ⟨0, _⟩ => rfl | ⟨1, _⟩ => rfl

/-- Point `t` reads the block of 1024 rows number `t` of the features. -/
theorem rows_apply (c : Dev nD) (t : Fin cfg0.N) (r : Fin 1024) (k : Fin 26) (hr : t.val * 1024 + r.val < 16384) :
    iblk m c 0 t (ix2 r k) = input m c (ix2 ⟨t.val * 1024 + r.val, hr⟩ k) := by
  unfold iblk
  rw [View.read_apply]
  show V m c main_arg0 _ = _
  rw [V_main_arg0]
  refine congrArg (input m c) (funext fun a => Fin.ext ?_)
  have h0 : ∀ t : Fin grid0.N, win0_0.index t 0 = t.val := by decide +kernel
  have h1 : ∀ t : Fin grid0.N, win0_0.index t 1 = 0 := by decide +kernel
  match a with
  | ⟨0, _⟩ => show win0_0.index t 0 * 1024 + 1 * r.val = t.val * 1024 + r.val; rw [h0 t, one_mul]
  | ⟨1, _⟩ => show win0_0.index t 1 * 26 + 1 * k.val = k.val; rw [h1 t]; omega

/-- Every point reads the whole spreading matrix. -/
theorem block_spread (c : Dev nD) (t : Fin cfg0.N) : iblk m c 1 t = spread := by
  have h : ∀ t : Fin grid0.N, (fun a => win0_1.index t a * main_v18.ty.shape.size a) = fun _ => 0 := fun t => by
    funext a; match a with | ⟨0, _⟩ => exact Nat.zero_mul _ | ⟨1, _⟩ => exact Nat.zero_mul _
  rw [← entry_spread m c]
  exact Memref.read_access_unit_zero (Elt Ideal) main_v18 (h t) (fun a => by rw [congrFun (h t) a]; simp) (V m c main_v18)

/-- Every point reads the whole row of phases. -/
theorem block_phases (c : Dev nD) (t : Fin cfg0.N) : iblk m c 2 t = phases := by
  have h : ∀ t : Fin grid0.N, (fun a => win0_2.index t a * main_v26.ty.shape.size a) = fun _ => 0 := fun t => by
    funext a; match a with | ⟨0, _⟩ => exact Nat.zero_mul _ | ⟨1, _⟩ => exact Nat.zero_mul _
  rw [← entry_phases m c]
  exact Memref.read_access_unit_zero (Elt Ideal) main_v26 (h t) (fun a => by rw [congrFun (h t) a]; simp) (V m c main_v26)

/-- What point `t` writes back is block `t` of the encoding of the features. -/
theorem written (c : Dev nD) (t : Fin cfg0.N) :
    (dats m 0 c).flushed 3 t = ((cfg0.win 3).blk t).view.read (Elt Ideal) (encode (input m c)) := by
  have hN : cfg0.N = 16 := N_0
  have ht := t.isLt
  rw [Value.flushed3, block_spread, block_phases]
  unfold out0_3
  rw [View.canon_unit_zero zero_offsets, View.ld_unit_zero zero_offsets, View.ld_unit_zero zero_offsets, View.ld_unit_zero zero_offsets]
  funext j
  obtain ⟨r, q, rfl⟩ : ∃ (r : Fin 1024) (q : Fin 1664), j = ix2 r q := ⟨j 0, j 1, eq_ix2 j⟩
  have hr : t.val * 1024 + r.val < 16384 := by have := r.isLt; omega
  refine (body_apply (iblk m c 0 t) r q).trans ?_
  rw [rows_apply m c t r (feat q) hr, View.read_apply]
  have h0 : ∀ t : Fin grid0.N, win0_3.index t 0 = t.val := by decide +kernel
  have h1 : ∀ t : Fin grid0.N, win0_3.index t 1 = 0 := by decide +kernel
  have hj : ((cfg0.win 3).blk t).view.emb (ix2 r q) = (ix2 ⟨t.val * 1024 + r.val, hr⟩ q : S16384x1664.Idx) := by
    refine funext fun a => Fin.ext ?_
    match a with
    | ⟨0, _⟩ => show win0_3.index t 0 * 1024 + 1 * r.val = t.val * 1024 + r.val; rw [h0 t, one_mul]
    | ⟨1, _⟩ => show win0_3.index t 1 * 1664 + 1 * q.val = q.val; rw [h1 t]; omega
  exact (congrArg (encode (input m c)) hj).symm

/-- The 16 blocks of 1024 rows cover the result: row `i` lies in block `i / 1024`. -/
theorem covered (i : S16384x1664.Idx) : ∃ t : Fin cfg0.N, (cfg0.win 3).flush t = true ∧ i ∈ ((cfg0.win 3).blk t).view.set := by
  have hN : cfg0.N = 16 := N_0
  have hi0 : (i 0 : Nat) < 16384 := (i 0).isLt
  have hi1 : (i 1 : Nat) < 1664 := (i 1).isLt
  let t : Fin grid0.N := ⟨(i 0 : Nat) / 1024, by show _ < cfg0.N; omega⟩
  refine ⟨t, flush0_3 t, ?_⟩
  show i ∈ ((View.whole main_v27).slice (win0_3.rect t)).set
  rw [View.set_slice_whole, Rect.mem_set_unit]
  have h0 : ∀ t : Fin grid0.N, win0_3.index t 0 * win0_3.size 0 = t.val * 1024 := by decide +kernel
  have h1 : ∀ t : Fin grid0.N, win0_3.index t 1 * win0_3.size 1 = 0 := by decide +kernel
  have s0 : ∀ t : Fin grid0.N, win0_3.xsize (grid0.coords t) 0 = 1024 := by decide +kernel
  have s1 : ∀ t : Fin grid0.N, win0_3.xsize (grid0.coords t) 1 = 1664 := by decide +kernel
  intro a
  match a with
  | ⟨0, _⟩ =>
    show win0_3.index t 0 * win0_3.size 0 ≤ (i 0 : Nat) ∧ (i 0 : Nat) < win0_3.index t 0 * win0_3.size 0 + win0_3.xsize (grid0.coords t) 0
    rw [h0 t, s0 t]; show (i 0 : Nat) / 1024 * 1024 ≤ (i 0 : Nat) ∧ (i 0 : Nat) < (i 0 : Nat) / 1024 * 1024 + 1024; omega
  | ⟨1, _⟩ =>
    show win0_3.index t 1 * win0_3.size 1 ≤ (i 1 : Nat) ∧ (i 1 : Nat) < win0_3.index t 1 * win0_3.size 1 + win0_3.xsize (grid0.coords t) 1
    rw [h1 t, s1 t]; omega

/-- When the run ends the result array is the encoding of the features. -/
theorem final (c : Dev nD) : (dats m 0 c).arrAt 3 cfg0.N = encode (input m c) :=
  (dats m 0 c).arrAt_eq_of_cover 3 (encode (input m c)) (fun t _ => written m c t) covered

end Cert.KernelIdeal.Array

end
-- ==== Proof.Reference.lean ====
/- What the reference program computes, read at an index: the same encoding. -/
module

public import proofs.«01_k».proof.Proof.Array
public import proofs.«01_k».proof.Proof.Gen.ReferenceIdeal.Run

@[expose] public section

noncomputable section

namespace Cert.ReferenceIdeal.Term

open Cert.ReferenceIdeal Cert.ReferenceIdeal.Gen Cert.Encoding
open Idealize.ShloMosaic Idealize.ShloMosaic.TcCoe Idealize.SL.Sem Idealize.ShloMosaic.ValueIdx
open Cert.KernelIdeal.Array (feat place col_eq encode)

/-- The 32 frequencies, as the reference computes them. -/
abbrev freqs : FVec Ideal S32 .f32 :=
  Host.exp (Host.divf (mulf (broadcastInDim S32 ![] bcast_S_S32 (constant S_ .f32 0xC1135D8E#32)) (sitofp .f32 (iotaInDim S32 32 0)))
    (broadcastInDim S32 ![] bcast_S_S32 (constant S_ .f32 0x42000000#32)))

/-- The angles: each feature times each frequency. -/
abbrev angles (x : FVec Ideal S16384x26 .f32) : FVec Ideal S16384x26x32 .f32 :=
  mulf (broadcastInDim S16384x26x32 ![0, 1, 2] bcast_S16384x26x1_S16384x26x32_0_1_2 (broadcastInDim S16384x26x1 ![0, 1] bcast_S16384x26_S16384x26x1_0_1 x))
    (broadcastInDim S16384x26x32 ![0, 1, 2] bcast_S1x1x32_S16384x26x32_0_1_2 (broadcastInDim S1x1x32 ![2] bcast_S32_S1x1x32_2 freqs))

/-- The cosines and then the sines of the angles, feature by feature. -/
abbrev pairs (x : FVec Ideal S16384x26 .f32) : FVec Ideal S16384x26x64 .f32 :=
  concatenate S16384x26x64 2 [⟨S16384x26x32, Host.cos (angles x)⟩, ⟨S16384x26x32, Host.sin (angles x)⟩]
    concatenates_S16384x26x32_S16384x26x32_S16384x26x64_d2

/-- The reference's result: the cosines and sines with the features run together. -/
abbrev result (x : FVec Ideal S16384x26 .f32) : FVec Ideal S16384x1664 .f32 :=
  shapeCast S16384x1664 (pairs x) shapeCasts_S16384x26x64_S16384x1664

/-- The angle of row `r`, feature `f`, frequency `d`. -/
theorem angles_apply (x : FVec Ideal S16384x26 .f32) (r : Fin 16384) (f : Fin 26) (d : Fin 32) :
    angles x (ix3 r f d) = x (ix2 r f) * freq d.val := by
  refine congrArg₂ (· * ·) ?_ ?_
  · refine (broadcastInDim_apply _ _ _ (ix3 r f d) (ix3 r f (0 : Fin 1)) ?_).trans ?_
    · intro a; match a with | ⟨0, _⟩ => rfl | ⟨1, _⟩ => rfl | ⟨2, _⟩ => rfl
    · refine broadcastInDim_apply _ _ _ (ix3 r f (0 : Fin 1)) (ix2 r f) ?_
      intro a; match a with | ⟨0, _⟩ => rfl | ⟨1, _⟩ => rfl
  · refine (broadcastInDim_apply _ _ _ (ix3 r f d) (ix3 (0 : Fin 1) (0 : Fin 1) d) ?_).trans ?_
    · intro a; match a with | ⟨0, _⟩ => rfl | ⟨1, _⟩ => rfl | ⟨2, _⟩ => rfl
    · refine (broadcastInDim_apply _ _ _ (ix3 (0 : Fin 1) (0 : Fin 1) d) (ix1 d) ?_).trans rfl
      intro a; match a with | ⟨0, _⟩ => rfl

/-- Entry `d` of the 64 entries of row `r`, feature `f`. -/
theorem pairs_apply (x : FVec Ideal S16384x26 .f32) (r : Fin 16384) (f : Fin 26) (d : Fin 64) :
    pairs x (ix3 r f d) = entry (x (ix2 r f)) d.val := by
  unfold entry
  by_cases h : d.val < 32
  · rw [if_pos h]
    refine (concatenate_pair_apply_left 2 (Host.cos (angles x)) (Host.sin (angles x)) _ (ix3 r f d) rfl (ix3 r f (⟨d.val, h⟩ : Fin 32)) ?_).trans ?_
    · intro b; match b with | ⟨0, _⟩ => rfl | ⟨1, _⟩ => rfl | ⟨2, _⟩ => rfl
    · exact congrArg Ideal.cos (angles_apply x r f ⟨d.val, h⟩)
  · rw [if_neg h]
    have hd := d.isLt
    refine (concatenate_pair_apply_right 2 (Host.cos (angles x)) (Host.sin (angles x)) _ (ix3 r f d) rfl rfl (ix3 r f (⟨d.val - 32, by omega⟩ : Fin 32)) ?_ ?_).trans ?_
    · intro b hb; match b with | ⟨0, _⟩ => rfl | ⟨1, _⟩ => rfl | ⟨2, _⟩ => exact absurd rfl hb
    · show d.val - 32 + 32 = d.val; omega
    · exact congrArg Ideal.sin (angles_apply x r f ⟨d.val - 32, by omega⟩)

/-- The reference's result is the encoding of the features. -/
theorem result_eq (x : FVec Ideal S16384x26 .f32) : result x = encode x := by
  funext j
  obtain ⟨r, q, rfl⟩ : ∃ (r : Fin 16384) (q : Fin 1664), j = ix2 r q := ⟨j 0, j 1, eq_ix2 j⟩
  refine (shapeCast_apply _ _ (ix2 r q) (ix3 r (feat q) (place q)) ?_).trans (pairs_apply x r (feat q) (place q))
  rw [Shape.rowMajor_val_three, Shape.rowMajor_val_two]
  have := col_eq q
  show (r.val * 26 + (feat q).val) * 64 + (place q).val = r.val * 1664 + q.val
  omega

end Cert.ReferenceIdeal.Term

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, leaves its argument alone and its counters at zero, for the device's floats. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference, which is host operations alone and has no counter to leave nonzero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with the same array: both hold the encoding of the features. -/
theorem algebraic : Cert.algebraic_KernelIdeal_ReferenceIdeal := by
  intro m ρ m' ρ' _ hagree
  refine ⟨fun c => Cert.KernelIdeal.Array.encode (Cert.KernelIdeal.Array.input m c), ?_, ?_⟩
  · exact (θ_run Cert.KernelIdeal.defs _ _).mono (fun _ h c => ⟨(h c).1.trans (Cert.KernelIdeal.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact Cert.ReferenceIdeal.Term.result_eq (Cert.KernelIdeal.Array.input m c)

/-- The five claims together: three runs, the unchanged text, and the equality of the two programs. -/
theorem claim : Cert.Claim := ⟨Cert.Kernel.Gen.facts, Cert.KernelIdeal.Gen.facts, Cert.ReferenceIdeal.Gen.facts,
  frame_kernel, frame_ideal, frame_reference, trivial, algebraic⟩

end Cert.Proof

end
